-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512x30x40 : Shape := ⟨4, ![64, 512, 30, 40]⟩
abbrev S64x512 : Shape := ⟨2, ![64, 512]⟩
abbrev S64x30x40x512 : Shape := ⟨4, ![64, 30, 40, 512]⟩
abbrev S64x1200x512 : Shape := ⟨3, ![64, 1200, 512]⟩
abbrev S512x64 : Shape := ⟨2, ![512, 64]⟩
abbrev S64x64x512 : Shape := ⟨3, ![64, 64, 512]⟩
abbrev S64x32768 : Shape := ⟨2, ![64, 32768]⟩
abbrev S8x600x512 : Shape := ⟨3, ![8, 600, 512]⟩
abbrev S8x64x512 : Shape := ⟨3, ![8, 64, 512]⟩
abbrev S1x600x512 : Shape := ⟨3, ![1, 600, 512]⟩
abbrev S600x512 : Shape := ⟨2, ![600, 512]⟩
abbrev S600 : Shape := ⟨1, ![600]⟩
abbrev S600x1 : Shape := ⟨2, ![600, 1]⟩
abbrev S600x64 : Shape := ⟨2, ![600, 64]⟩
abbrev S64 : Shape := ⟨1, ![64]⟩
abbrev S1x64 : Shape := ⟨2, ![1, 64]⟩
abbrev S64x1 : Shape := ⟨2, ![64, 1]⟩
abbrev S1x64x512 : Shape := ⟨3, ![1, 64, 512]⟩
abbrev S1 : Shape := ⟨1, ![1]⟩
abbrev S1x1x1 : Shape := ⟨3, ![1, 1, 1]⟩
abbrev S1x1 : Shape := ⟨2, ![1, 1]⟩

abbrev nBuf : Space → Nat
  | .hbm => 8
  | .vmem => 8
  | .smem => 0
  | _ => 0

abbrev bufTy : (tb : Table) → Fin (tcTables nBuf tb) → BufTy
  | .hbm, ⟨0, _⟩ => ⟨S64x512x30x40, .f32⟩
  | .hbm, ⟨1, _⟩ => ⟨S64x512, .f32⟩
  | .hbm, ⟨2, _⟩ => ⟨S64x512, .f32⟩
  | .hbm, ⟨3, _⟩ => ⟨S64x30x40x512, .f32⟩
  | .hbm, ⟨4, _⟩ => ⟨S64x1200x512, .f32⟩
  | .hbm, ⟨5, _⟩ => ⟨S512x64, .f32⟩
  | .hbm, ⟨6, _⟩ => ⟨S64x64x512, .f32⟩
  | .hbm, ⟨7, _⟩ => ⟨S64x32768, .f32⟩
  | .local _ .vmem, ⟨0, _⟩ => ⟨S8x600x512, .f32⟩
  | .local _ .vmem, ⟨1, _⟩ => ⟨S8x600x512, .f32⟩
  | .local _ .vmem, ⟨2, _⟩ => ⟨S8x600x512, .f32⟩
  | .local _ .vmem, ⟨3, _⟩ => ⟨S8x600x512, .f32⟩
  | .local _ .vmem, ⟨4, _⟩ => ⟨S512x64, .f32⟩
  | .local _ .vmem, ⟨5, _⟩ => ⟨S64x512, .f32⟩
  | .local _ .vmem, ⟨6, _⟩ => ⟨S8x64x512, .f32⟩
  | .local _ .vmem, ⟨7, _⟩ => ⟨S8x64x512, .f32⟩
  | _, _ => ⟨S64x512x30x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x600x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x600x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "eps2" => some ((5316911940649 / 5316911983139663491615228241121378304 : ℝ) : EReal)
  | _ => none
-- ==== ReferenceIdeal.lean ====
abbrev S64x512x30x40 : Shape := ⟨4, ![64, 512, 30, 40]⟩
abbrev S64x512 : Shape := ⟨2, ![64, 512]⟩
abbrev S_ : Shape := ⟨0, ![]⟩
abbrev S64x30x40 : Shape := ⟨3, ![64, 30, 40]⟩
abbrev S64x1x30x40 : Shape := ⟨4, ![64, 1, 30, 40]⟩
abbrev S64x512x1200 : Shape := ⟨3, ![64, 512, 1200]⟩
abbrev S64x64x1200 : Shape := ⟨3, ![64, 64, 1200]⟩
abbrev S64x1200 : Shape := ⟨2, ![64, 1200]⟩
abbrev S64x1x1200 : Shape := ⟨3, ![64, 1, 1200]⟩
abbrev S64x64x512 : Shape := ⟨3, ![64, 64, 512]⟩
abbrev S64x64 : Shape := ⟨2, ![64, 64]⟩
abbrev S64x64x1 : Shape := ⟨3, ![64, 64, 1]⟩
abbrev S1x64x512 : Shape := ⟨3, ![1, 64, 512]⟩
abbrev S64x32768 : Shape := ⟨2, ![64, 32768]⟩
abbrev S64 : Shape := ⟨1, ![64]⟩
abbrev S64x1 : Shape := ⟨2, ![64, 1]⟩

abbrev nBuf : Space → Nat
  | .hbm => 60
  | .vmem => 0
  | .smem => 0
  | _ => 0

abbrev bufTy : (tb : Table) → Fin (tcTables nBuf tb) → BufTy
  | .hbm, ⟨0, _⟩ => ⟨S64x512x30x40, .f32⟩
  | .hbm, ⟨1, _⟩ => ⟨S64x512, .f32⟩
  | .hbm, ⟨2, _⟩ => ⟨S64x512, .f32⟩
  | .hbm, ⟨3, _⟩ => ⟨S64x512x30x40, .f32⟩
  | .hbm, ⟨4, _⟩ => ⟨S_, .f32⟩
  | .hbm, ⟨5, _⟩ => ⟨S64x30x40, .f32⟩
  | .hbm, ⟨6, _⟩ => ⟨S64x1x30x40, .f32⟩
  | .hbm, ⟨7, _⟩ => ⟨S64x1x30x40, .f32⟩
  | .hbm, ⟨8, _⟩ => ⟨S_, .f32⟩
  | .hbm, ⟨9, _⟩ => ⟨S64x1x30x40, .f32⟩
  | .hbm, ⟨10, _⟩ => ⟨S64x1x30x40, .f32⟩
  | .hbm, ⟨11, _⟩ => ⟨S64x512x30x40, .f32⟩
  | .hbm, ⟨12, _⟩ => ⟨S64x512x30x40, .f32⟩
  | .hbm, ⟨13, _⟩ => ⟨S64x512x1200, .f32⟩
  | .hbm, ⟨14, _⟩ => ⟨S64x64x1200, .f32⟩
  | .hbm, ⟨15, _⟩ => ⟨S64x64x1200, .f32⟩
  | .hbm, ⟨16, _⟩ => ⟨S_, .f32⟩
  | .hbm, ⟨17, _⟩ => ⟨S64x1200, .f32⟩
  | .hbm, ⟨18, _⟩ => ⟨S_, .f32⟩
  | .hbm, ⟨19, _⟩ => ⟨S64x1200, .f32⟩
  | .hbm, ⟨20, _⟩ => ⟨S64x1200, .f32⟩
  | .hbm, ⟨21, _⟩ => ⟨S64x1x1200, .f32⟩
  | .hbm, ⟨22, _⟩ => ⟨S64x64x1200, .f32⟩
  | .hbm, ⟨23, _⟩ => ⟨S64x64x1200, .f32⟩
  | .hbm, ⟨24, _⟩ => ⟨S64x64x1200, .f32⟩
  | .hbm, ⟨25, _⟩ => ⟨S_, .f32⟩
  | .hbm, ⟨26, _⟩ => ⟨S64x1200, .f32⟩
  | .hbm, ⟨27, _⟩ => ⟨S64x1x1200, .f32⟩
  | .hbm, ⟨28, _⟩ => ⟨S64x64x1200, .f32⟩
  | .hbm, ⟨29, _⟩ => ⟨S64x64x1200, .f32⟩
  | .hbm, ⟨30, _⟩ => ⟨S64x64x512, .f32⟩
  | .hbm, ⟨31, _⟩ => ⟨S_, .f32⟩
  | .hbm, ⟨32, _⟩ => ⟨S64x64, .f32⟩
  | .hbm, ⟨33, _⟩ => ⟨S64x64x1, .f32⟩
  | .hbm, ⟨34, _⟩ => ⟨S1x64x512, .f32⟩
  | .hbm, ⟨35, _⟩ => ⟨S64x64x512, .f32⟩
  | .hbm, ⟨36, _⟩ => ⟨S64x64x512, .f32⟩
  | .hbm, ⟨37, _⟩ => ⟨S64x64x512, .f32⟩
  | .hbm, ⟨38, _⟩ => ⟨S64x64x512, .f32⟩
  | .hbm, ⟨39, _⟩ => ⟨S64x64x512, .f32⟩
  | .hbm, ⟨40, _⟩ => ⟨S_, .f32⟩
  | .hbm, ⟨41, _⟩ => ⟨S64x64, .f32⟩
  | .hbm, ⟨42, _⟩ => ⟨S64x64x1, .f32⟩
  | .hbm, ⟨43, _⟩ => ⟨S64x64x1, .f32⟩
  | .hbm, ⟨44, _⟩ => ⟨S_, .f32⟩
  | .hbm, ⟨45, _⟩ => ⟨S64x64x1, .f32⟩
  | .hbm, ⟨46, _⟩ => ⟨S64x64x1, .f32⟩
  | .hbm, ⟨47, _⟩ => ⟨S64x64x512, .f32⟩
  | .hbm, ⟨48, _⟩ => ⟨S64x64x512, .f32⟩
  | .hbm, ⟨49, _⟩ => ⟨S64x32768, .f32⟩
  | .hbm, ⟨50, _⟩ => ⟨S64x32768, .f32⟩
  | .hbm, ⟨51, _⟩ => ⟨S_, .f32⟩
  | .hbm, ⟨52, _⟩ => ⟨S64, .f32⟩
  | .hbm, ⟨53, _⟩ => ⟨S64x1, .f32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S64x32768, .f32⟩
  | .hbm, ⟨59, _⟩ => ⟨S64x32768, .f32⟩
  | _, _ => ⟨S64x512x30x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.Algebra.lean ====
/-
  The mathematics of the kernel and of the reference over the extended reals, without any array or program in it: one
  pixel's norm, its scores and soft assignment; an image's residuals; the two normalisations. The kernel scales a
  product by the reciprocal of a norm where the reference divides the pixel by the norm first; this file shows that the
  two agree for every pixel, the infinite ones included.
-/
module

public import Idealize.ShloMosaic.PureOps.Ideal
public import Idealize.ShloMosaic.PureOps.Ideal.Laws

@[expose] public section

noncomputable section

namespace Cert.Netvlad

open Idealize.ShloMosaic

/-- The constant that keeps a norm from zero: the value of the float word the programs write for `1e-12`. -/
def eps : ℝ := 2305843 / 2 ^ 61

/-- The float word the programs write for `1e-12` holds `eps`. -/
theorem ofBits_eps : Ideal.ofBits .f32 0x2B8CBCCC#32 = (eps : EReal) := by
  simp [Ideal.ofBits, Ideal.ieee, eps, -EReal.coe_mul]; norm_num

/-- `eps` is positive. -/
theorem eps_pos : 0 < eps := by norm_num [eps]

/-- The kernel's named constant is the square of `eps`. -/
theorem eps_sq : (5316911940649 / 5316911983139663491615228241121378304 : ℝ) = eps * eps := by norm_num [eps]

/-- The reciprocal square root of the larger of a nonnegative number and `eps²` is nonnegative, is no infinity, and
    multiplying by it is dividing by the larger of the square root and `eps`. -/
theorem rsqrt_max (s : EReal) (hs : 0 ≤ s) :
    0 ≤ Ideal.rsqrt (max s ((eps * eps : ℝ) : EReal)) ∧ Ideal.rsqrt (max s ((eps * eps : ℝ) : EReal)) ≠ ⊤
      ∧ ∀ y : EReal, Ideal.div y (max (Ideal.sqrt s) (eps : EReal)) = y * Ideal.rsqrt (max s ((eps * eps : ℝ) : EReal)) := by
  induction s using EReal.rec with
  | bot => exact absurd hs (by simp)
  | top =>
    refine ⟨by simp, by simp, fun y => ?_⟩
    simp [Ideal.div]
  | coe r =>
    have hr : 0 ≤ r := EReal.coe_nonneg.mp hs
    have he := eps_pos
    have hm : max (r : EReal) ((eps * eps : ℝ) : EReal) = ((max r (eps * eps) : ℝ) : EReal) :=
      (EReal.coe_strictMono.monotone.map_max).symm
    have hp : 0 < max r (eps * eps) := lt_max_of_lt_right (by positivity)
    have hsq : Real.sqrt (max r (eps * eps)) = max (Real.sqrt r) eps := by
      rcases le_total r (eps * eps) with h | h
      · rw [max_eq_right h, Real.sqrt_mul_self he.le, max_eq_right]
        exact (Real.sqrt_le_sqrt h).trans_eq (Real.sqrt_mul_self he.le)
      · rw [max_eq_left h, max_eq_left]
        exact (Real.sqrt_mul_self he.le).symm.trans_le (Real.sqrt_le_sqrt h)
    have hq : 0 < max (Real.sqrt r) eps := lt_max_of_lt_right he
    rw [hm, Ideal.rsqrt_coe, if_neg hp.le.not_gt, if_neg hp.ne', hsq, Ideal.sqrt_coe, if_neg hr.not_gt]
    refine ⟨EReal.coe_nonneg.mpr (inv_nonneg.mpr hq.le), EReal.coe_ne_top _, fun y => ?_⟩
    rw [show max ((Real.sqrt r : ℝ) : EReal) (eps : EReal) = ((max (Real.sqrt r) eps : ℝ) : EReal) from
      (EReal.coe_strictMono.monotone.map_max).symm, Ideal.div_coe hq.ne', one_div]

/-- A square is nonnegative. -/
theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A nonnegative number that is no infinity distributes over a finite sum. -/
theorem sum_mul_of_nonneg {ι : Type*} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih =>
    rw [Finset.sum_insert ha, Finset.sum_insert ha, ← ih, mul_comm, EReal.left_distrib_of_nonneg_of_ne_top h0 ht,
      mul_comm r, mul_comm r]

/-! ## One pixel -/

variable {ι κ δ : Type*} [Fintype ι] [Fintype κ] [Fintype δ]

/-- The sum of a pixel's squares. -/
def ssq (x : δ → EReal) : EReal := ∑ d, x d * x d

theorem ssq_nonneg (x : δ → EReal) : 0 ≤ ssq x := Finset.sum_nonneg fun d _ => mul_self_nonneg' (x d)

/-- The reciprocal of a pixel's norm, as the kernel computes it. -/
def scale (x : δ → EReal) : EReal := Ideal.rsqrt (max (ssq x) ((eps * eps : ℝ) : EReal))

theorem scale_nonneg (x : δ → EReal) : 0 ≤ scale x := (rsqrt_max _ (ssq_nonneg x)).1

theorem scale_ne_top (x : δ → EReal) : scale x ≠ ⊤ := (rsqrt_max _ (ssq_nonneg x)).2.1

/-- A pixel divided by its norm, as the reference computes it. -/
def unit (x : δ → EReal) (d : δ) : EReal := Ideal.div (x d) (max (Ideal.sqrt (ssq x)) (eps : EReal))

/-- Dividing by the norm is multiplying by its reciprocal. -/
theorem unit_eq (x : δ → EReal) (d : δ) : unit x d = x d * scale x := (rsqrt_max _ (ssq_nonneg x)).2.2 (x d)

/-- A pixel's score against each cluster, scaled after the product. -/
def score (w : κ → δ → EReal) (x : δ → EReal) (k : κ) : EReal := (∑ d, x d * w k d) * scale x

/-- The score is the product of the weights with the pixel of norm one. -/
theorem score_eq (w : κ → δ → EReal) (x : δ → EReal) (k : κ) : score w x k = ∑ d, w k d * unit x d := by
  unfold score
  rw [sum_mul_of_nonneg _ _ (scale_nonneg x) (scale_ne_top x)]
  refine Finset.sum_congr rfl fun d _ => ?_
  rw [unit_eq, ← mul_assoc, mul_comm (w k d)]

/-- The largest of a family of scores. -/
def top (l : κ → EReal) : EReal := Finset.univ.fold max ⊥ l

/-- The softmax of a family of scores, the largest subtracted first. -/
def soft (l : κ → EReal) (k : κ) : EReal :=
  Ideal.div (Ideal.exp (l k - top l)) (∑ k', Ideal.exp (l k' - top l))

/-! ## One image -/

/-- The residuals of the pixels `X`, with the weights scaled: what the kernel adds up. -/
def pooled (w : κ → δ → EReal) (X : ι → δ → EReal) (k : κ) (d : δ) : EReal :=
  ∑ n, soft (score w (X n)) k * scale (X n) * X n d

/-- The total assignment of the pixels `X` to a cluster. -/
def mass (w : κ → δ → EReal) (X : ι → δ → EReal) (k : κ) : EReal := ∑ n, soft (score w (X n)) k

/-- The residuals of an image: its pooled pixels less its total assignments times the centroids. -/
def resid (w c : κ → δ → EReal) (X : ι → δ → EReal) (k : κ) (d : δ) : EReal :=
  pooled w X k d - mass w X k * c k d

/-- The reference's pooled pixels, of norm one before they are weighted, are the kernel's. -/
theorem pooled_eq (w : κ → δ → EReal) (X : ι → δ → EReal) (k : κ) (d : δ) :
    pooled w X k d = ∑ n, soft (fun k' => ∑ e, w k' e * unit (X n) e) k * unit (X n) d := by
  refine Finset.sum_congr rfl fun n _ => ?_
  rw [unit_eq, mul_assoc, mul_comm (scale (X n)), funext (score_eq w (X n))]

/-- The reference's total assignments are the kernel's. -/
theorem mass_eq (w : κ → δ → EReal) (X : ι → δ → EReal) (k : κ) :
    mass w X k = ∑ n, soft (fun k' => ∑ e, w k' e * unit (X n) e) k :=
  Finset.sum_congr rfl fun n _ => by rw [funext (score_eq w (X n))]

/-- A block with each row divided by its norm. -/
def rowUnit (r : κ → δ → EReal) (k : κ) (d : δ) : EReal := unit (r k) d

/-- A block divided by its norm. -/
def blockUnit (r : κ → δ → EReal) (k : κ) (d : δ) : EReal :=
  Ideal.div (r k d) (max (Ideal.sqrt (∑ k', ∑ d', r k' d' * r k' d')) (eps : EReal))

/-- The descriptor of an image with pixels `X`, as a block: its residuals, normalised row by row and then as a whole. -/
def descriptor (w c : κ → δ → EReal) (X : ι → δ → EReal) : κ → δ → EReal := blockUnit (rowUnit (resid w c X))

/-- Pixels in two parts pool to the sum of what the parts pool to. -/
theorem pooled_halves {N : ℕ} (w : κ → δ → EReal) (X : Fin (N + N) → δ → EReal) (k : κ) (d : δ) :
    pooled w X k d = pooled w (fun n => X (Fin.castAdd N n)) k d + pooled w (fun n => X (Fin.natAdd N n)) k d :=
  Fin.sum_univ_add _

/-- The total assignment of pixels in two parts is the sum of the parts'. -/
theorem mass_halves {N : ℕ} (w : κ → δ → EReal) (X : Fin (N + N) → δ → EReal) (k : κ) :
    mass w X k = mass w (fun n => X (Fin.castAdd N n)) k + mass w (fun n => X (Fin.natAdd N n)) k :=
  Fin.sum_univ_add _

end Cert.Netvlad

end
-- ==== Proof.Pixels.lean ====
/-
  How the arguments are read: the pixels of an image of the 64 × 512 × 30 × 40 input, and a 64 × 512 matrix by rows.
-/
module

public import Idealize.ShloMosaic.Lib.Pointwise

@[expose] public section

noncomputable section

namespace Cert.Netvlad

open Idealize.ShloMosaic

/-- Channel `d` of pixel `n` of image `b`, the 30 × 40 pixels counted row by row. -/
def pix (x : (⟨4, ![64, 512, 30, 40]⟩ : Shape).Idx → EReal) (b : Fin 64) (n : Fin (600 + 600)) (d : Fin 512) : EReal :=
  x (ix4 b d ⟨n.val / 40, by omega⟩ ⟨n.val % 40, by omega⟩)

/-- A 64 × 512 matrix, indexed by row and column. -/
def mat (w : (⟨2, ![64, 512]⟩ : Shape).Idx → EReal) (k : Fin 64) (d : Fin 512) : EReal := w (ix2 k d)

/-- The row of position `j` in a flattened 64 × 512 block. -/
def rowOf (j : Fin 32768) : Fin 64 := ⟨j.val / 512, by omega⟩

/-- The column of position `j` in a flattened 64 × 512 block. -/
def colOf (j : Fin 32768) : Fin 512 := ⟨j.val % 512, by omega⟩

/-- A sum over the positions of a flattened block is the sum over its rows and columns. -/
theorem sum_flat (f : Fin 64 → Fin 512 → EReal) : ∑ j : Fin 32768, f (rowOf j) (colOf j) = ∑ k, ∑ d, f k d := by
  rw [← Fintype.sum_prod_type' f]
  exact Fintype.sum_equiv (finProdFinEquiv (m := 64) (n := 512)).symm _ _ fun j => rfl

end Cert.Netvlad

end
-- ==== Proof.RefValue.lean ====
/-
  The reference's result, read at an index over the extended reals: entry `(b, j)` is entry `(j / 512, j % 512)` of the
  descriptor of image `b`.
-/
module

public import proofs.«01_k».proof.Proof.Gen.ReferenceIdeal.Read
public import proofs.«01_k».proof.Proof.Algebra
public import proofs.«01_k».proof.Proof.Pixels
public import Idealize.ShloMosaic.Lib.Pointwise

@[expose] public section

set_option maxRecDepth 16384

noncomputable section

namespace Cert.Netvlad

open Cert.ReferenceIdeal Cert.ReferenceIdeal.Gen Cert.ReferenceIdeal.Read Idealize.ShloMosaic

variable (x : FVec Ideal S64x512x30x40 .f32) (w c : FVec Ideal S64x512 .f32)

/-- The float word of minus infinity is the least extended real. -/
theorem ofBits_bot' : Ideal.ofBits .f32 0xFF800000#32 = ⊥ := by simp [Ideal.ofBits, Ideal.ieee]

/-- The reference's pixels, each divided by its norm. -/
theorem ref_unit (b : Fin 64) (n : Fin 1200) (d : Fin 512) : val_main_v8 (F := Ideal) x (ix3 b d n) = unit (pix x b n) d := by
  pointwise [val_main_v8, val_main_v7, val_main_v6, val_main_v5, val_main_v4, val_main_v3, val_main_v2, val_main_v1,
    val_main_v0, val_main_cst, val_main_cst_0]
  rw [ofBits_eps]; rfl

/-- The reference's scores. -/
theorem ref_score (b : Fin 64) (n : Fin 1200) (k : Fin 64) :
    val_main_v10 (F := Ideal) x w (ix3 b k n) = score (mat w) (pix x b n) k := by
  pointwise [val_main_v10, val_main_v9]
  rw [score_eq]
  exact Finset.sum_congr rfl fun d _ => by rw [ref_unit]; rfl

/-- The largest score of a pixel, as the reference's reduction finds it. -/
theorem ref_fold (b : Fin 64) (n : Fin 1200) :
    val_main_v11 (F := Ideal) x w (ix2 b n) = top (score (mat w) (pix x b n)) := by
  pointwise [val_main_v11, val_main_cst_1]
  rw [ofBits_bot', funext (ref_score x w b n)]; rfl

/-- The largest score of a pixel and minus infinity: the reference's largest score. -/
theorem ref_top (b : Fin 64) (n : Fin 1200) :
    val_main_v13 (F := Ideal) x w (ix2 b n) = top (score (mat w) (pix x b n)) := by
  rw [val_main_v13_apply, val_main_v12_apply, val_main_cst_2_apply, ref_fold, Ideal.ofBits_def, ofBits_bot']
  exact bot_sup_eq _

/-- The exponentials of the reference's scores, the largest subtracted first. -/
theorem ref_exp (b : Fin 64) (n : Fin 1200) (k : Fin 64) : val_main_v17 (F := Ideal) x w (ix3 b k n)
    = Ideal.exp (score (mat w) (pix x b n) k - top (score (mat w) (pix x b n))) := by
  pointwise [val_main_v17, val_main_v16, val_main_v15, val_main_v14]
  rw [ref_top, ref_score]

/-- The reference's soft assignments. -/
theorem ref_soft (b : Fin 64) (n : Fin 1200) (k : Fin 64) :
    val_main_v21 (F := Ideal) x w (ix3 b k n) = soft (score (mat w) (pix x b n)) k := by
  pointwise [val_main_v21, val_main_v20, val_main_v19, val_main_v18, val_main_cst_3]
  simp only [ref_exp]; rfl

/-- The reference's residuals. -/
theorem ref_resid (b : Fin 64) (k : Fin 64) (d : Fin 512) :
    val_main_v29 (F := Ideal) x w c (ix3 b k d) = resid (mat w) (mat c) (pix x b) k d := by
  pointwise [val_main_v29, val_main_v28, val_main_v27, val_main_v26, val_main_v25, val_main_v24, val_main_v23,
    val_main_cst_4, val_main_v22]
  simp only [ref_soft, ref_unit]
  unfold resid
  rw [pooled_eq]
  simp only [← score_eq]
  rfl

/-- The reference's residuals, normalised row by row. -/
theorem ref_rowUnit (b : Fin 64) (k : Fin 64) (d : Fin 512) :
    val_main_v37 (F := Ideal) x w c (ix3 b k d) = rowUnit (resid (mat w) (mat c) (pix x b)) k d := by
  pointwise [val_main_v37, val_main_v36, val_main_v35, val_main_v34, val_main_v33, val_main_v32, val_main_v31,
    val_main_v30, val_main_cst_5, val_main_cst_6]
  simp only [ref_resid, ofBits_eps]; rfl

/-- The rows laid end to end. -/
theorem ref_flat (b : Fin 64) (j : Fin 32768) : val_main_v38 (F := Ideal) x w c (ix2 b j)
    = rowUnit (resid (mat w) (mat c) (pix x b)) (rowOf j) (colOf j) := by
  pointwise [val_main_v38]
  exact ref_rowUnit x w c b (rowOf j) (colOf j)

/-- The reference's result is the descriptor of each image, its rows laid end to end. -/
theorem ref_value (b : Fin 64) (j : Fin 32768) : val_main_v46 (F := Ideal) x w c (ix2 b j)
    = descriptor (mat w) (mat c) (pix x b) (rowOf j) (colOf j) := by
  pointwise [val_main_v46, val_main_v45, val_main_v44, val_main_v43, val_main_v42, val_main_v41, val_main_v40,
    val_main_v39, val_main_cst_7, val_main_cst_8]
  simp only [ref_flat, ofBits_eps]
  rw [sum_flat fun k d => rowUnit (resid (mat w) (mat c) (pix x b)) k d * rowUnit (resid (mat w) (mat c) (pix x b)) k d]
  rfl

end Cert.Netvlad

end
-- ==== Proof.Image.lean ====
/-
  One image of the kernel: the two half windows of its pixels, the assignment weights, the centroids, and the
  64 × 512 block the body stores for it. The body treats each of the eight images of a grid point by the same
  sequence of operations, so the sequence is written down once here, over any float type, and each of the eight
  stored blocks is that one function of the image's two halves.
-/
module

public import proofs.«01_k».proof.Proof.Gen.KernelIdeal.Frame

@[expose] public section

noncomputable section

namespace Cert.Netvlad

open Cert.KernelIdeal Cert.KernelIdeal.Gen Idealize.ShloMosaic

variable {F : FTy → Type} [FloatOps F] [Named F]

/-- The reciprocal norm of every pixel of a half: `rsqrt (max (Σ_d x_d²) ε²)`. -/
def pixelScale (x : FVec F S600x512 .f32) : FVec F S600x1 .f32 :=
  rsqrt (maximumf
    (shapeCast S600x1 (multiReduction .add [1] S600 (mulf x x) 0x00000000#32 reduces_S600x512_S600 (.inl rfl) rfl)
      shapeCasts_S600_S600x1)
    (broadcast S600x1 (Named.named κ "eps2" 0x179ABE15#32)))

/-- The scores of every pixel of a half against the 64 clusters: the raw pixels times the weights, then scaled. -/
def scores (w : FVec F S512x64 .f32) (x : FVec F S600x512 .f32) : FVec F S600x64 .f32 :=
  mulf (matmul dot_S600x512_S512x64_S600x64_1_0_0_1_n_n none x w (constant S600x64 .f32 0x00000000#32))
    (broadcastTo S600x64 (pixelScale x) broadcasts_S600x1_S600x64)

/-- The exponentials of the scores, each pixel's largest score subtracted first. -/
def expScores (l : FVec F S600x64 .f32) : FVec F S600x64 .f32 :=
  exp (subf l (broadcastTo S600x64
    (shapeCast S600x1 (multiReduction .maximumf [1] S600 l 0xFF800000#32 reduces_S600x64_S600 (.inl rfl) rfl)
      shapeCasts_S600_S600x1) broadcasts_S600x1_S600x64))

/-- The soft assignment of every pixel of a half: the softmax of its scores. -/
def assign (w : FVec F S512x64 .f32) (x : FVec F S600x512 .f32) : FVec F S600x64 .f32 :=
  divf (expScores (scores w x)) (broadcastTo S600x64
    (shapeCast S600x1 (multiReduction .add [1] S600 (expScores (scores w x)) 0x00000000#32 reduces_S600x64_S600 (.inl rfl) rfl)
      shapeCasts_S600_S600x1) broadcasts_S600x1_S600x64)

/-- A half's weighted pixel sums, cluster by cluster. -/
def halfSum (w : FVec F S512x64 .f32) (x : FVec F S600x512 .f32) : FVec F S64x512 .f32 :=
  matmul dot_S600x64_S600x512_S64x512_0_0_1_1_n_n none
    (mulf (assign w x) (broadcastTo S600x64 (pixelScale x) broadcasts_S600x1_S600x64)) x (constant S64x512 .f32 0x00000000#32)

/-- A half's total assignment to each cluster. -/
def halfMass (w : FVec F S512x64 .f32) (x : FVec F S600x512 .f32) : FVec F S1x64 .f32 :=
  shapeCast S1x64 (multiReduction .add [0] S64 (assign w x) 0x00000000#32 reduces_S600x64_S64 (.inl rfl) rfl) shapeCasts_S64_S1x64

/-- The residuals: the weighted pixel sums of both halves, less the total assignment times the centroid. -/
def residual (w : FVec F S512x64 .f32) (c : FVec F S64x512 .f32) (x y : FVec F S600x512 .f32) : FVec F S64x512 .f32 :=
  subf (addf (halfSum w x) (halfSum w y))
    (mulf (broadcastTo S64x512 (transpose S64x1 [1, 0] (addf (halfMass w x) (halfMass w y)) transposes_S1x64_p1_0_S64x1)
      broadcasts_S64x1_S64x512) c)

/-- Each row divided by its norm, the norm kept from zero by the constant. -/
def rowNormalized (r : FVec F S64x512 .f32) : FVec F S64x512 .f32 :=
  divf r (broadcastTo S64x512 (maximumf
    (sqrt (shapeCast S64x1 (multiReduction .add [1] S64 (mulf r r) 0x00000000#32 reduces_S64x512_S64 (.inl rfl) rfl)
      shapeCasts_S64_S64x1))
    (broadcast S64x1 (Scalar.ofBits .f32 0x2B8CBCCC#32))) broadcasts_S64x1_S64x512)

/-- The sum of all the squares of a block. -/
def squareSum (r : FVec F S64x512 .f32) : F .f32 :=
  extractAt ![0, 0, 0]
    (shapeCast S1x1x1 (multiReduction .add [1, 2] S1 (shapeCast S1x64x512 (mulf r r) shapeCasts_S64x512_S1x64x512)
      0x00000000#32 reduces_S1x64x512_S1 (.inl rfl) rfl) shapeCasts_S1_S1x1x1) inpos_S1x1x1_p0_0_0

/-- The whole block divided by its norm, the norm kept from zero by the constant. -/
def normalized (r : FVec F S64x512 .f32) : FVec F S64x512 .f32 :=
  divf r (broadcastTo S64x512 (maximumf (sqrt (broadcast S1x1 (squareSum r)))
    (broadcast S1x1 (Scalar.ofBits .f32 0x2B8CBCCC#32))) broadcasts_S1x1_S64x512)

/-- What the body stores for one image, from the image's two half windows, the weights and the centroids as loaded. -/
def image (w : FVec F S512x64 .f32) (c : FVec F S64x512 .f32) (x y : FVec F S1x600x512 .f32) : FVec F S1x64x512 .f32 :=
  shapeCast S1x64x512
    (normalized (rowNormalized (residual (shapeCast S512x64 w shapeCasts_S512x64_S512x64) c
      (shapeCast S600x512 x shapeCasts_S1x600x512_S600x512) (shapeCast S600x512 y shapeCasts_S1x600x512_S600x512))))
    shapeCasts_S64x512_S1x64x512

/-- The body's output buffer: image `g` of the buffer is `image` of image `g` of the two input half windows. -/
theorem out_eq_images (x0 x1 : Vec F S8x600x512 .f32) (x2 : Vec F S512x64 .f32) (x3 : Vec F S64x512 .f32) :
    out0_4 x0 x1 x2 x3 = View.canon
      [⟨r0_17, image (View.ld x2 r0_0) (View.ld x3 r0_1) (View.ld x0 r0_16) (View.ld x1 r0_16)⟩,
       ⟨r0_15, image (View.ld x2 r0_0) (View.ld x3 r0_1) (View.ld x0 r0_14) (View.ld x1 r0_14)⟩,
       ⟨r0_13, image (View.ld x2 r0_0) (View.ld x3 r0_1) (View.ld x0 r0_12) (View.ld x1 r0_12)⟩,
       ⟨r0_11, image (View.ld x2 r0_0) (View.ld x3 r0_1) (View.ld x0 r0_10) (View.ld x1 r0_10)⟩,
       ⟨r0_9, image (View.ld x2 r0_0) (View.ld x3 r0_1) (View.ld x0 r0_8) (View.ld x1 r0_8)⟩,
       ⟨r0_7, image (View.ld x2 r0_0) (View.ld x3 r0_1) (View.ld x0 r0_6) (View.ld x1 r0_6)⟩,
       ⟨r0_5, image (View.ld x2 r0_0) (View.ld x3 r0_1) (View.ld x0 r0_4) (View.ld x1 r0_4)⟩,
       ⟨r0_3, image (View.ld x2 r0_0) (View.ld x3 r0_1) (View.ld x0 r0_2) (View.ld x1 r0_2)⟩] := rfl

end Cert.Netvlad

end
-- ==== Proof.ImageValue.lean ====
/-
  The block the kernel stores for one image, read at an index over the extended reals: it is the image's descriptor.
-/
module

public import proofs.«01_k».proof.Proof.Image
public import proofs.«01_k».proof.Proof.Algebra
public import Idealize.ShloMosaic.Lib.Pointwise

@[expose] public section

set_option maxRecDepth 16384

noncomputable section

namespace Cert.Netvlad

open Cert.KernelIdeal Cert.KernelIdeal.Gen Idealize.ShloMosaic

/-- Pixel `n` of a half, its features indexed by channel. -/
def px (x : FVec Ideal S600x512 .f32) (n : Fin 600) (d : Fin 512) : EReal := x (ix2 n d)

/-- The weights of cluster `k`, indexed by channel. -/
def wt (w : FVec Ideal S512x64 .f32) (k : Fin 64) (d : Fin 512) : EReal := w (ix2 d k)

/-- A 64 × 512 block, indexed by cluster and channel. -/
def blk (r : FVec Ideal S64x512 .f32) (k : Fin 64) (d : Fin 512) : EReal := r (ix2 k d)

/-- The named constant of the kernel is the square of `eps`. -/
theorem named_eps2 : (Named.named (F := Ideal) (φ := .f32) κ "eps2" 0x179ABE15#32 : EReal) = ((eps * eps : ℝ) : EReal) :=
  congrArg (fun r : ℝ => (r : EReal)) eps_sq

/-- The float word of minus infinity is the least extended real. -/
theorem ofBits_bot : Ideal.ofBits .f32 0xFF800000#32 = ⊥ := by simp [Ideal.ofBits, Ideal.ieee]

/-- A pixel's scale is the reciprocal of its norm. -/
theorem pixelScale_apply (x : FVec Ideal S600x512 .f32) (n : Fin 600) : pixelScale x (ix2 n 0) = scale (px x n) := by
  pointwise [pixelScale]
  rw [named_eps2]; rfl

/-- A pixel's scores. -/
theorem scores_apply (w : FVec Ideal S512x64 .f32) (x : FVec Ideal S600x512 .f32) (n : Fin 600) (k : Fin 64) :
    scores w x (ix2 n k) = score (wt w) (px x n) k := by
  pointwise [scores]
  rw [pixelScale_apply]; rfl

/-- The exponential of a score less the pixel's largest. -/
theorem expScores_apply (l : FVec Ideal S600x64 .f32) (n : Fin 600) (k : Fin 64) :
    expScores l (ix2 n k) = Ideal.exp (l (ix2 n k) - top fun k' => l (ix2 n k')) := by
  pointwise [expScores]
  rw [ofBits_bot]; rfl

/-- A pixel's soft assignment is the softmax of its scores. -/
theorem assign_apply (w : FVec Ideal S512x64 .f32) (x : FVec Ideal S600x512 .f32) (n : Fin 600) (k : Fin 64) :
    assign w x (ix2 n k) = soft (score (wt w) (px x n)) k := by
  pointwise [assign]
  simp only [expScores_apply, scores_apply]; rfl

/-- A half's weighted sums pool its pixels. -/
theorem halfSum_apply (w : FVec Ideal S512x64 .f32) (x : FVec Ideal S600x512 .f32) (k : Fin 64) (d : Fin 512) :
    halfSum w x (ix2 k d) = pooled (wt w) (px x) k d := by
  pointwise [halfSum]
  simp only [assign_apply, pixelScale_apply]; rfl

/-- A half's total assignment to a cluster. -/
theorem halfMass_apply (w : FVec Ideal S512x64 .f32) (x : FVec Ideal S600x512 .f32) (k : Fin 64) :
    halfMass w x (ix2 0 k) = mass (wt w) (px x) k := by
  pointwise [halfMass]
  simp only [assign_apply]; rfl

/-- The residuals of two halves that are the two parts of the pixels `X` are the residuals of `X`. -/
theorem residual_apply (w : FVec Ideal S512x64 .f32) (c : FVec Ideal S64x512 .f32) (x y : FVec Ideal S600x512 .f32)
    (X : Fin (600 + 600) → Fin 512 → EReal) (hx : ∀ n, px x n = X (Fin.castAdd 600 n)) (hy : ∀ n, px y n = X (Fin.natAdd 600 n)) :
    blk (residual w c x y) = resid (wt w) (blk c) X := by
  funext k d
  unfold blk
  pointwise [residual]
  rw [halfSum_apply, halfSum_apply, halfMass_apply, halfMass_apply, funext hx, funext hy, ← pooled_halves, ← mass_halves]
  rfl

/-- The rows divided by their norms. -/
theorem rowNormalized_apply (r : FVec Ideal S64x512 .f32) : blk (rowNormalized r) = rowUnit (blk r) := by
  funext k d
  unfold blk
  pointwise [rowNormalized]
  rw [ofBits_eps]; rfl

/-- The sum of a block's squares, row by row. -/
theorem squareSum_eq (r : FVec Ideal S64x512 .f32) :
    squareSum r = ∑ k : Fin 64, ∑ d : Fin 512, blk r k d * blk r k d := by
  unfold blk
  pointwise [squareSum]

/-- The block divided by its norm. -/
theorem normalized_apply (r : FVec Ideal S64x512 .f32) : blk (normalized r) = blockUnit (blk r) := by
  funext k d
  unfold blk
  pointwise [normalized]
  rw [ofBits_eps, squareSum_eq]; rfl

/-- A block stored as the one image of a window of images, read back. -/
theorem block_apply (r : FVec Ideal S64x512 .f32) (k : Fin 64) (d : Fin 512) :
    shapeCast S1x64x512 r shapeCasts_S64x512_S1x64x512 (ix3 0 k d) = blk r k d := by
  unfold blk
  pointwise

/-- The pixels of a half loaded as the one image of a window of images. -/
theorem half_apply (x : FVec Ideal S1x600x512 .f32) (n : Fin 600) (d : Fin 512) :
    px (shapeCast S600x512 x shapeCasts_S1x600x512_S600x512) n d = x (ix3 0 n d) := by
  unfold px
  pointwise

/-- The block stored for an image whose pixels are `X` is the descriptor of `X`. -/
theorem image_apply (w : FVec Ideal S512x64 .f32) (c : FVec Ideal S64x512 .f32) (x y : FVec Ideal S1x600x512 .f32)
    (X : Fin (600 + 600) → Fin 512 → EReal) (hx : ∀ n d, x (ix3 0 n d) = X (Fin.castAdd 600 n) d)
    (hy : ∀ n d, y (ix3 0 n d) = X (Fin.natAdd 600 n) d) (k : Fin 64) (d : Fin 512) :
    image w c x y (ix3 0 k d) = descriptor (wt w) (blk c) X k d := by
  refine (block_apply _ k d).trans ?_
  rw [normalized_apply, rowNormalized_apply, residual_apply _ _ _ _ X, shapeCast_self]
  · rfl
  · exact fun n => funext fun e => (half_apply x n e).trans (hx n e)
  · exact fun n => funext fun e => (half_apply y n e).trans (hy n e)

end Cert.Netvlad

end
-- ==== Proof.Block.lean ====
/-
  The output block of one grid point, eight images at a time: image `g` of the block is the descriptor of image `g` of
  the two input half windows.
-/
module

public import proofs.«01_k».proof.Proof.ImageValue
public import Idealize.ShloMosaic.Lib.Pipeline.Value

@[expose] public section

set_option maxRecDepth 16384

noncomputable section

namespace Cert.Netvlad

open Cert.KernelIdeal Cert.KernelIdeal.Gen Idealize.ShloMosaic

/-- The descriptors of the eight images `X`, as an output block. -/
def blockOf (w c : Fin 64 → Fin 512 → EReal) (X : Fin 8 → Fin (600 + 600) → Fin 512 → EReal) (y : S8x64x512.Idx) : EReal :=
  descriptor w c (X (y 0)) (y 1) (y 2)

section

variable (x0 x1 : Vec Ideal S8x600x512 .f32) (x2 : Vec Ideal S512x64 .f32) (x3 : Vec Ideal S64x512 .f32)
variable (X : Fin 8 → Fin (600 + 600) → Fin 512 → EReal)
variable (hx : ∀ g n d, x0 (ix3 g n d) = X g (Fin.castAdd 600 n) d) (hy : ∀ g n d, x1 (ix3 g n d) = X g (Fin.natAdd 600 n) d)

include hx hy in
/-- The block stored for image `g`, wherever in the output block it is stored: the descriptor of image `g`. -/
theorem piece (g : ℕ) (hg : g < 8) (hi : ∀ a, (![g, 0, 0] : Fin 3 → ℕ) a + S1x600x512.size a ≤ S8x600x512.size a)
    (ho : ∀ a, (![g, 0, 0] : Fin 3 → ℕ) a + S1x64x512.size a ≤ S8x64x512.size a) (z : S1x64x512.Idx) :
    image (F := Ideal) (View.ld x2 r0_0) (View.ld x3 r0_1)
        (View.ld x0 (Rect.unit (s := S8x600x512) ![g, 0, 0] S1x600x512.size hi))
        (View.ld x1 (Rect.unit (s := S8x600x512) ![g, 0, 0] S1x600x512.size hi)) z
      = blockOf (wt x2) (blk x3) X ((Rect.unit (s := S8x64x512) ![g, 0, 0] S1x64x512.size ho).emb z) := by
  obtain ⟨o, k, e, rfl⟩ : ∃ (o : Fin 1) (k : Fin 64) (e : Fin 512), z = ix3 o k e := ⟨z 0, z 1, z 2, eq_ix3 z⟩
  obtain rfl : o = 0 := Subsingleton.elim _ _
  have hin (n : Fin 600) (d : Fin 512) : (Rect.unit (s := S8x600x512) ![g, 0, 0] S1x600x512.size hi).emb (ix3 0 n d)
      = ix3 (n0 := 8) (n1 := 600) (n2 := 512) ⟨g, hg⟩ n d := by
    funext a; refine Fin.ext ?_
    rw [Rect.emb_apply]
    match a with
    | ⟨0, _⟩ => simp [Rect.unit, ix3]
    | ⟨1, _⟩ => simp [Rect.unit, ix3]
    | ⟨2, _⟩ => simp [Rect.unit, ix3]
  have hout : (Rect.unit (s := S8x64x512) ![g, 0, 0] S1x64x512.size ho).emb (ix3 0 k e)
      = ix3 (n0 := 8) (n1 := 64) (n2 := 512) ⟨g, hg⟩ k e := by
    funext a; refine Fin.ext ?_
    rw [Rect.emb_apply]
    match a with
    | ⟨0, _⟩ => simp [Rect.unit, ix3]
    | ⟨1, _⟩ => simp [Rect.unit, ix3]
    | ⟨2, _⟩ => simp [Rect.unit, ix3]
  rw [hout]
  refine (image_apply _ _ _ _ (X ⟨g, hg⟩) ?_ ?_ k e).trans ?_
  · intro n d; exact (congrArg x0 (hin n d)).trans (hx _ n d)
  · intro n d; exact (congrArg x1 (hin n d)).trans (hy _ n d)
  · rw [View.ld_unit_zero (by decide), View.ld_unit_zero (by decide)]; rfl

include hx hy in
/-- The output block after the body: the descriptors of the eight images whose two halves the input windows hold. -/
theorem out_eq_blockOf : out0_4 x0 x1 x2 x3 = blockOf (wt x2) (blk x3) X := by
  rw [out_eq_images]
  funext y
  refine View.canon_apply_of_pieces (Val := Elt Ideal) (blockOf (wt x2) (blk x3) X) _ ?_ y (cover0_4 _ _ _ _ _ _ _ _ y)
  have P := piece x0 x1 x2 x3 X hx hy
  simp only [List.forall_mem_cons, List.not_mem_nil, false_imp_iff, implies_true, and_true]
  exact ⟨P 7 (by decide) _ _, P 6 (by decide) _ _, P 5 (by decide) _ _, P 4 (by decide) _ _, P 3 (by decide) _ _,
    P 2 (by decide) _ _, P 1 (by decide) _ _, P 0 (by decide) _ _⟩

end

end Cert.Netvlad

end
-- ==== Proof.Array.lean ====
module

public import proofs.«01_k».proof.Proof.Block
public import proofs.«01_k».proof.Proof.Pixels
public import Idealize.ShloMosaic.Lib.Pipeline.ValueKit
public import Idealize.ShloMosaic.Lib.StableHlo.Run

@[expose] public section

set_option maxRecDepth 16384

noncomputable section

namespace Cert.Netvlad

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The input as launched. -/
abbrev argX : FVec Ideal S64x512x30x40 .f32 := m ((c.tc : Thread nD τ).loc main_arg0)
/-- The weights as launched. -/
abbrev argW : FVec Ideal S64x512 .f32 := m ((c.tc : Thread nD τ).loc main_arg1)
/-- The centroids as launched. -/
abbrev argC : FVec Ideal S64x512 .f32 := m ((c.tc : Thread nD τ).loc main_arg2)

/-- The region finds the input with its channels last and its pixels in one axis. -/
theorem entry_x : V m c main_call0_v1 = (shapeCast S64x1200x512
    (transpose S64x30x40x512 [0, 2, 3, 1] (argX m c) transposes_S64x512x30x40_S64x30x40x512_0_2_3_1)
    shapeCasts_S64x30x40x512_S64x1200x512 : FVec Ideal S64x1200x512 .f32) := by
  after_results_simp <;> rfl

/-- The region finds the weights transposed. -/
theorem entry_w : V m c main_call0_v2 = (transpose S512x64 [1, 0] (argW m c) transposes_S64x512_S512x64_1_0 : FVec Ideal S512x64 .f32) := by
  after_results_simp <;> rfl

/-- The entry input at one image, pixel and channel. -/
theorem entry_x_apply (b : Fin 64) (n : Fin 1200) (d : Fin 512) :
    (V m c main_call0_v1 : FVec Ideal S64x1200x512 .f32) (ix3 b n d) = pix (argX m c) b n d := by
  rw [entry_x]
  generalize argX m c = x
  pointwise
  rfl

/-- The entry weights at one index. -/
theorem entry_w_apply (d : Fin 512) (k : Fin 64) :
    (V m c main_call0_v2 : FVec Ideal S512x64 .f32) (ix2 d k) = mat (argW m c) k d := by
  rw [entry_w]
  generalize argW m c = x
  pointwise
  rfl

/-- Where each window stands at point `t`: both halves and the output at block `t` of images, the parameters whole. -/
theorem idx0 : ∀ t : Fin cfg0.N, win0_0.index t = ![t.val, 0, 0] ∧ win0_1.index t = ![t.val, 1, 0]
    ∧ win0_2.index t = ![0, 0] ∧ win0_3.index t = ![0, 0] ∧ win0_4.index t = ![t.val, 0, 0] :=
  (by decide +kernel : ∀ t : Fin grid0.N, win0_0.index t = ![t.val, 0, 0] ∧ win0_1.index t = ![t.val, 1, 0]
    ∧ win0_2.index t = ![0, 0] ∧ win0_3.index t = ![0, 0] ∧ win0_4.index t = ![t.val, 0, 0])

/-- There are eight points. -/
theorem N8 : cfg0.N = 8 := N_0

/-- Image `g` of the eight of point `t`. -/
def imageOf (t : Fin cfg0.N) (g : Fin 8) : Fin 64 := ⟨8 * t.val + g.val, by have h : t.val < 8 := N8 ▸ t.isLt; omega⟩

/-- The first window holds the first half of each image's pixels. -/
theorem blk0 (t : Fin cfg0.N) (g : Fin 8) (n : Fin 600) (d : Fin 512) :
    (iblk m c 0 t : FVec Ideal S8x600x512 .f32) (ix3 g n d) = pix (argX m c) (imageOf t g) (Fin.castAdd 600 n) d := by
  rw [← entry_x_apply]
  blk_ext [iblk, (idx0 t).1]
  · show _ = 8 * t.val + g.val
    omega
  · rfl

/-- The second window holds the second half. -/
theorem blk1 (t : Fin cfg0.N) (g : Fin 8) (n : Fin 600) (d : Fin 512) :
    (iblk m c 1 t : FVec Ideal S8x600x512 .f32) (ix3 g n d) = pix (argX m c) (imageOf t g) (Fin.natAdd 600 n) d := by
  rw [← entry_x_apply]
  blk_ext [iblk, (idx0 t).2.1]
  · show _ = 8 * t.val + g.val
    omega
  · rfl

/-- The third window holds the weights. -/
theorem blk2 (t : Fin cfg0.N) : wt (iblk m c 2 t) = mat (argW m c) := by
  funext k d
  rw [← entry_w_apply]
  unfold wt
  blk_ext [iblk, (idx0 t).2.2.1]

/-- The fourth window holds the centroids. -/
theorem blk3 (t : Fin cfg0.N) : blk (iblk m c 3 t) = mat (argC m c) := by
  funext k d
  unfold blk mat argC
  rw [← V_main_arg2 m c]
  blk_ext [iblk, (idx0 t).2.2.2.1]

/-- Every image's descriptor, as one array over image, cluster and channel. -/
def table (x : FVec Ideal S64x512x30x40 .f32) (w ce : FVec Ideal S64x512 .f32) : FVec Ideal S64x64x512 .f32 :=
  fun i => descriptor (mat w) (mat ce) (pix x (i 0)) (i 1) (i 2)

/-- Point `t` writes back the descriptors of its eight images. -/
theorem point_out (t : Fin cfg0.N) : out0_4 (iblk m c 0 t) (iblk m c 1 t) (iblk m c 2 t) (iblk m c 3 t)
    = blockOf (mat (argW m c)) (mat (argC m c)) fun g => pix (argX m c) (imageOf t g) := by
  rw [out_eq_blockOf _ _ _ _ _ (blk0 m c t) (blk1 m c t), blk2, blk3]

/-- So what it writes back is block `t` of the table. -/
theorem flushed_table (t : Fin cfg0.N) : (dats m 0 c).flushed 4 t
    = ((cfg0.win 4).blk t).view.read (Elt Ideal) (table (argX m c) (argW m c) (argC m c)) := by
  show (cfg0.win 4).cut (grid0.coords t) ((dats m 0 c).after 4 t) = _
  rw [after0_4, point_out]
  funext y
  have e : ((cfg0.win 4).blk t).view.emb y = (ix3 (imageOf t (y 0)) (y 1) (y 2) : S64x64x512.Idx) := by
    blk_ext [idx0]
    show t.val * 8 + (y 0).val = 8 * t.val + (y 0).val
    omega
  show _ = table _ _ _ (((cfg0.win 4).blk t).view.emb y)
  rw [e]
  rfl

/-- Every index of the output lies in the block of the point that has its image. -/
theorem covered (i : S64x64x512.Idx) : ∃ t : Fin cfg0.N, (cfg0.win 4).flush t = true ∧ i ∈ ((cfg0.win 4).blk t).view.set := by
  have h0 : (i 0).val < 64 := (i 0).isLt
  have h1 : (i 1).val < 64 := (i 1).isLt
  have h2 : (i 2).val < 512 := (i 2).isLt
  refine ⟨⟨(i 0).val / 8, by rw [N8]; omega⟩, ?_, ?_⟩
  · exact (by decide +kernel : ∀ t : Fin grid0.N, win0_4.flush t = true) _
  · mem_blk [(idx0 _).2.2.2.2]
    have e : (i 0).val / 8 * 8 ≤ (i 0).val ∧ (i 0).val < (i 0).val / 8 * 8 + 8 := by omega
    exact ⟨e, ⟨Nat.zero_le _, h1⟩, Nat.zero_le _, h2⟩

/-- After the last point the output array is the table. -/
theorem array_eq : (dats m 0 c).arrAt 4 cfg0.N = table (argX m c) (argW m c) (argC m c) :=
  (dats m 0 c).arrAt_eq_of_cover 4 _ (fun t _ => flushed_table m c t) covered

/-- The result: the table with clusters and channels in one axis. -/
theorem result_eq : Pipeline.afterTail₀ cfgs (dats m) 0 (V0 m) [hostOps1] c main_v0
    = (shapeCast S64x32768 (table (argX m c) (argW m c) (argC m c)) shapeCasts_S64x64x512_S64x32768 : FVec Ideal S64x32768 .f32) := by
  have e := (dats m 0 c).withArrays_arrAt launch₀0.sharedIn (V0 m c) (A_eq m c) 4
  rw [array_eq] at e
  rw [← e]
  unfold Pipeline.afterTail₀
  generalize Pipeline.withArrays _ c (V0 m c) _ = W
  show StableHlo.after hostOps1 W (Proc.devRef .tc main_v0) = _
  after_results_simp
  all_goals rfl

/-- The result at one image and column. -/
theorem result_apply (b : Fin 64) (j : Fin 32768) :
    (Pipeline.afterTail₀ cfgs (dats m) 0 (V0 m) [hostOps1] c main_v0 : FVec Ideal S64x32768 .f32) (ix2 b j)
      = descriptor (mat (argW m c)) (mat (argC m c)) (pix (argX m c) b) (rowOf j) (colOf j) := by
  rw [result_eq]
  generalize e : table (argX m c) (argW m c) (argC m c) = T
  pointwise
  subst e
  rfl

end Cert.Netvlad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefValue
public import proofs.«01_k».proof.Proof.Array
public import Idealize.ShloMosaic.Adequacy
public import Idealize.ShloMosaic.Init

@[expose] public section

noncomputable section

namespace Cert.Proof

open Idealize.ShloMosaic Idealize.ShloMosaic.TcCoe Idealize.SL.Sem Cert.Netvlad

/-- The reference ends with its arguments unchanged and, declaring no semaphore, with every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel's result and the reference's, of the same arguments: at every image and column both are that image's
    descriptor. -/
theorem results_agree (m : (ℓ : Loc Cert.KernelIdeal.nD Cert.KernelIdeal.τ Cert.KernelIdeal.sig) → Buf (Elt Ideal) ℓ)
    (c : Dev Cert.KernelIdeal.nD) :
    (Pipeline.afterTail₀ Cert.KernelIdeal.cfgs (Cert.KernelIdeal.Gen.dats m) 0 (Cert.KernelIdeal.Gen.V0 m)
        [Cert.KernelIdeal.Gen.hostOps1] c Cert.KernelIdeal.main_v0 : FVec Ideal Cert.KernelIdeal.S64x32768 .f32)
      = Cert.ReferenceIdeal.Read.val_main_v46 (F := Ideal) (argX m c) (argW m c) (argC m c) := by
  funext y
  obtain ⟨b, j, rfl⟩ : ∃ (b : Fin 64) (j : Fin 32768), y = ix2 b j := ⟨y 0, y 1, eq_ix2 y⟩
  exact (result_apply m c b j).trans (ref_value _ _ _ b j).symm

/-- The kernel's run, its result named by the reference's expression. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v0)
          = Cert.ReferenceIdeal.Read.val_main_v46 (F := Ideal) (argX m c) (argW m c) (argC m c)) :=
  (θ_run Cert.KernelIdeal.defs _ _).mono
    (fun _ h c => ((h c).2 Cert.KernelIdeal.main_v0 (Pipeline.mem_restRefs_of _ (by decide) (by decide))).trans
      (results_agree m c))
    (Cert.KernelIdeal.Gen.run_main m ρ)

/-- Over the extended reals the kernel and the reference leave the same result. -/
theorem same_result : Cert.algebraic_KernelIdeal_ReferenceIdeal
    (hKernelIdeal := Cert.KernelIdeal.Gen.facts) (hReferenceIdeal := Cert.ReferenceIdeal.Gen.facts) := by
  intro m ρ m' ρ' _ hargs
  refine ⟨fun c => Cert.ReferenceIdeal.Read.val_main_v46 (F := Ideal) (argX m c) (argW m c) (argC m c), ?_, ?_⟩
  · exact (θ_run Cert.KernelIdeal.defs _ _).mono (fun _ h c => ⟨h.1 c, h.2 c⟩)
      (θ_run_and (run_kernel m ρ) (Cert.KernelIdeal.Gen.unchanged m ρ))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v46_eq, (hargs c).1, (hargs c).2.1, (hargs c).2.2]

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    IdealRules.named_const.statement Cert.KernelIdeal.κ "eps2" .f32 0x179ABE15#32 _ rfl, same_result⟩

end Cert.Proof

end
